-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_and_finite [hPre_labels_and_finite : Cert.Pre_labels_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_labels_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_labels_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_labels_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_and_finite [hPre_labels_and_finite : Cert.Pre_labels_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_labels_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_labels_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_labels_and_finite [hKernelIdeal : Cert.KernelIdeal.Facts] [hPre_labels_and_finite : Cert.Pre_labels_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_and_finite [hReferenceIdeal : Cert.ReferenceIdeal.Facts] [hPre_labels_and_finite : Cert.Pre_labels_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_labels_and_finite [hKernelIdeal : Cert.KernelIdeal.Facts] [hReferenceIdeal : Cert.ReferenceIdeal.Facts] [hPre_labels_and_finite : Cert.Pre_labels_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_and_finite : Cert.Pre_labels_and_finite.Facts),
    quiescent_Kernel (hKernel := hKernel)
    ∧ quiescent_KernelIdeal (hKernelIdeal := hKernelIdeal)
    ∧ quiescent_KernelIdeal_pre_labels_and_finite (hKernelIdeal := hKernelIdeal) (hPre_labels_and_finite := hPre_labels_and_finite)
    ∧ quiescent_ReferenceIdeal (hReferenceIdeal := hReferenceIdeal)
    ∧ quiescent_ReferenceIdeal_pre_labels_and_finite (hReferenceIdeal := hReferenceIdeal) (hPre_labels_and_finite := hPre_labels_and_finite)
    ∧ preserves_Kernel_KernelIdeal
    ∧ algebraic_KernelIdeal_ReferenceIdeal_pre_labels_and_finite (hKernelIdeal := hKernelIdeal) (hReferenceIdeal := hReferenceIdeal) (hPre_labels_and_finite := hPre_labels_and_finite)
-- ==== Pre_labels_and_finite.lean ====
abbrev S1024x256 : Shape := ⟨2, ![1024, 256]⟩
abbrev S1024 : Shape := ⟨1, ![1024]⟩
abbrev S512x256 : Shape := ⟨2, ![512, 256]⟩
abbrev S8x256x256 : Shape := ⟨3, ![8, 256, 256]⟩
abbrev S_ : Shape := ⟨0, ![]⟩

class Facts : Prop where
  bcast_S_S1024 : S_.BroadcastsInDim S1024 (![] : Fin 0 → Fin S1024.rank)
  bcast_S_S1024x256 : S_.BroadcastsInDim S1024x256 (![] : Fin 0 → Fin S1024x256.rank)
  bcast_S_S512x256 : S_.BroadcastsInDim S512x256 (![] : Fin 0 → Fin S512x256.rank)

variable [Facts]

def fn {F : FTy → Type} [FloatOps F] (main_arg0 : FVec F S1024x256 .f32) (main_arg1 : IVec S1024 32) (main_arg2 : FVec F S512x256 .f32) (main_arg3 : FVec F S8x256x256 .f32) : IVec S1024 1 × IVec S1024x256 1 × IVec S512x256 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 8#32
  let main_v2 : IVec S1024 32 := broadcastInDim S1024 ![] bcast_S_S1024 main_c_0
  let main_v3 : IVec S1024 1 := cmpi .slt main_arg1 main_v2
  let main_v4 : IVec S1024 1 := andi main_v1 main_v3
  let main_v5 : FVec F S1024x256 .f32 := Host.absf main_arg0
  let main_cst : FVec F S_ .f32 := constant S_ .f32 0x7F800000#32
  let main_v6 : FVec F S1024x256 .f32 := broadcastInDim S1024x256 ![] bcast_S_S1024x256 main_cst
  let main_v7 : IVec S1024x256 1 := cmpf .olt main_v5 main_v6
  let main_v8 : FVec F S512x256 .f32 := Host.absf main_arg2
  let main_cst_1 : FVec F S_ .f32 := constant S_ .f32 0x7F800000#32
  let main_v9 : FVec F S512x256 .f32 := broadcastInDim S512x256 ![] bcast_S_S512x256 main_cst_1
  let main_v10 : IVec S512x256 1 := cmpf .olt main_v8 main_v9
  (main_v4, main_v7, main_v10)
-- ==== Kernel.lean ====
abbrev S1024x256 : Shape := ⟨2, ![1024, 256]⟩
abbrev S1024 : Shape := ⟨1, ![1024]⟩
abbrev S512x256 : Shape := ⟨2, ![512, 256]⟩
abbrev S8x256x256 : Shape := ⟨3, ![8, 256, 256]⟩
abbrev S64x2048 : Shape := ⟨2, ![64, 2048]⟩
abbrev S1x1024 : Shape := ⟨2, ![1, 1024]⟩
abbrev S1x1 : Shape := ⟨2, ![1, 1]⟩
abbrev S1x256x256 : Shape := ⟨3, ![1, 256, 256]⟩
abbrev S256x256 : Shape := ⟨2, ![256, 256]⟩
abbrev S1 : Shape := ⟨1, ![1]⟩
abbrev S1x1x1 : Shape := ⟨3, ![1, 1, 1]⟩
abbrev S256x1024 : Shape := ⟨2, ![256, 1024]⟩
abbrev S64x256 : Shape := ⟨2, ![64, 256]⟩
abbrev S64 : Shape := ⟨1, ![64]⟩
abbrev S64x1 : Shape := ⟨2, ![64, 1]⟩
abbrev S64x1024 : Shape := ⟨2, ![64, 1024]⟩
abbrev S1x1x1024 : Shape := ⟨3, ![1, 1, 1024]⟩
abbrev S_ : Shape := ⟨0, ![]⟩

abbrev nBuf : Space → Nat
  | .hbm => 8
  | .vmem => 4
  | .smem => 1
  | _ => 0

abbrev bufTy : (tb : Table) → Fin (tcTables nBuf tb) → BufTy
  | .hbm, ⟨0, _⟩ => ⟨S1024x256, .f32⟩
  | .hbm, ⟨1, _⟩ => ⟨S1024, .i32⟩
  | .hbm, ⟨2, _⟩ => ⟨S512x256, .f32⟩
  | .hbm, ⟨3, _⟩ => ⟨S8x256x256, .f32⟩
  | .hbm, ⟨4, _⟩ => ⟨S64x2048, .f32⟩
  | .hbm, ⟨5, _⟩ => ⟨S1x1024, .i32⟩
  | .hbm, ⟨6, _⟩ => ⟨S1x1, .f32⟩
  | .hbm, ⟨7, _⟩ => ⟨S_, .f32⟩
  | .local _ .vmem, ⟨0, _⟩ => ⟨S1x1024, .i32⟩
  | .local _ .vmem, ⟨1, _⟩ => ⟨S1024x256, .f32⟩
  | .local _ .vmem, ⟨2, _⟩ => ⟨S64x2048, .f32⟩
  | .local _ .vmem, ⟨3, _⟩ => ⟨S8x256x256, .f32⟩
  | .local _ .smem, ⟨0, _⟩ => ⟨S1x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S1024 : Shape := ⟨1, ![1024]⟩
abbrev S512x256 : Shape := ⟨2, ![512, 256]⟩
abbrev S8x256x256 : Shape := ⟨3, ![8, 256, 256]⟩
abbrev S512 : Shape := ⟨1, ![512]⟩
abbrev S_ : Shape := ⟨0, ![]⟩
abbrev S1024x8x256 : Shape := ⟨3, ![1024, 8, 256]⟩
abbrev S512x1 : Shape := ⟨2, ![512, 1]⟩
abbrev S512x256x256 : Shape := ⟨3, ![512, 256, 256]⟩
abbrev S1024x8 : Shape := ⟨2, ![1024, 8]⟩
abbrev S1024x8x512 : Shape := ⟨3, ![1024, 8, 512]⟩
abbrev S512x2 : Shape := ⟨2, ![512, 2]⟩
abbrev S1024x512 : Shape := ⟨2, ![1024, 512]⟩
abbrev S1x512 : Shape := ⟨2, ![1, 512]⟩
abbrev S1024x1 : Shape := ⟨2, ![1024, 1]⟩
abbrev S524288 : Shape := ⟨1, ![524288]⟩

abbrev nBuf : Space → Nat
  | .hbm => 119
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024, .i32⟩
  | .hbm, ⟨2, _⟩ => ⟨S512x256, .f32⟩
  | .hbm, ⟨3, _⟩ => ⟨S8x256x256, .f32⟩
  | .hbm, ⟨4, _⟩ => ⟨S512, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S_, .i32⟩
  | .hbm, ⟨20, _⟩ => ⟨S_, .i1⟩
  | .hbm, ⟨21, _⟩ => ⟨S512, .i1⟩
  | .hbm, ⟨22, _⟩ => ⟨S512, .i1⟩
  | .hbm, ⟨23, _⟩ => ⟨S512, .i1⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S1024x8x256, .f32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S512x256x256, .f32⟩
  | .hbm, ⟨37, _⟩ => ⟨S512x256, .f32⟩
  | .hbm, ⟨38, _⟩ => ⟨S1024x8x256, .f32⟩
  | .hbm, ⟨39, _⟩ => ⟨S_, .f32⟩
  | .hbm, ⟨40, _⟩ => ⟨S1024x8, .f32⟩
  | .hbm, ⟨41, _⟩ => ⟨S512x256, .f32⟩
  | .hbm, ⟨42, _⟩ => ⟨S_, .f32⟩
  | .hbm, ⟨43, _⟩ => ⟨S512, .f32⟩
  | .hbm, ⟨44, _⟩ => ⟨S1024x8x512, .f32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S_, .i32⟩
  | .hbm, ⟨54, _⟩ => ⟨S512, .i32⟩
  | .hbm, ⟨55, _⟩ => ⟨S512, .i1⟩
  | .hbm, ⟨56, _⟩ => ⟨S_, .i32⟩
  | .hbm, ⟨57, _⟩ => ⟨S512, .i32⟩
  | .hbm, ⟨58, _⟩ => ⟨S512, .i32⟩
  | .hbm, ⟨59, _⟩ => ⟨S512, .i32⟩
  | .hbm, ⟨60, _⟩ => ⟨S512x1, .i32⟩
  | .hbm, ⟨61, _⟩ => ⟨S512x1, .i32⟩
  | .hbm, ⟨62, _⟩ => ⟨S512x2, .i32⟩
  | .hbm, ⟨63, _⟩ => ⟨S1024x512, .f32⟩
  | .hbm, ⟨64, _⟩ => ⟨S_, .i32⟩
  | .hbm, ⟨65, _⟩ => ⟨S512, .i32⟩
  | .hbm, ⟨66, _⟩ => ⟨S512, .i1⟩
  | .hbm, ⟨67, _⟩ => ⟨S_, .i32⟩
  | .hbm, ⟨68, _⟩ => ⟨S512, .i32⟩
  | .hbm, ⟨69, _⟩ => ⟨S512, .i32⟩
  | .hbm, ⟨70, _⟩ => ⟨S512, .i32⟩
  | .hbm, ⟨71, _⟩ => ⟨S512x1, .i32⟩
  | .hbm, ⟨72, _⟩ => ⟨S1024x512, .f32⟩
  | .hbm, ⟨73, _⟩ => ⟨S1x512, .f32⟩
  | .hbm, ⟨74, _⟩ => ⟨S1024x512, .f32⟩
  | .hbm, ⟨75, _⟩ => ⟨S1024x512, .f32⟩
  | .hbm, ⟨76, _⟩ => ⟨S_, .f32⟩
  | .hbm, ⟨77, _⟩ => ⟨S1024x512, .f32⟩
  | .hbm, ⟨78, _⟩ => ⟨S1024x512, .f32⟩
  | .hbm, ⟨79, _⟩ => ⟨S1024x512, .f32⟩
  | .hbm, ⟨80, _⟩ => ⟨S1x512, .i32⟩
  | .hbm, ⟨81, _⟩ => ⟨S1024x1, .i32⟩
  | .hbm, ⟨82, _⟩ => ⟨S1024x512, .i32⟩
  | .hbm, ⟨83, _⟩ => ⟨S1024x512, .i32⟩
  | .hbm, ⟨84, _⟩ => ⟨S1024x512, .i1⟩
  | .hbm, ⟨85, _⟩ => ⟨S_, .f32⟩
  | .hbm, ⟨86, _⟩ => ⟨S1024x512, .f32⟩
  | .hbm, ⟨87, _⟩ => ⟨S1024x512, .f32⟩
  | .hbm, ⟨88, _⟩ => ⟨S_, .f32⟩
  | .hbm, ⟨89, _⟩ => ⟨S1024, .f32⟩
  | .hbm, ⟨90, _⟩ => ⟨S1024x512, .i1⟩
  | .hbm, ⟨91, _⟩ => ⟨S1024x512, .f32⟩
  | .hbm, ⟨92, _⟩ => ⟨S_, .f32⟩
  | .hbm, ⟨93, _⟩ => ⟨S1024, .f32⟩
  | .hbm, ⟨94, _⟩ => ⟨S1024, .f32⟩
  | .hbm, ⟨95, _⟩ => ⟨S1024, .f32⟩
  | .hbm, ⟨96, _⟩ => ⟨S1024, .f32⟩
  | .hbm, ⟨97, _⟩ => ⟨S_, .f32⟩
  | .hbm, ⟨98, _⟩ => ⟨S1024, .f32⟩
  | .hbm, ⟨99, _⟩ => ⟨S1024, .f32⟩
  | .hbm, ⟨100, _⟩ => ⟨S1024, .f32⟩
  | .hbm, ⟨101, _⟩ => ⟨S_, .f32⟩
  | .hbm, ⟨102, _⟩ => ⟨S1024, .f32⟩
  | .hbm, ⟨103, _⟩ => ⟨S1024, .f32⟩
  | .hbm, ⟨104, _⟩ => ⟨S_, .f32⟩
  | .hbm, ⟨105, _⟩ => ⟨S1024, .f32⟩
  | .hbm, ⟨106, _⟩ => ⟨S1024, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S524288, .f32⟩
  | .hbm, ⟨112, _⟩ => ⟨S524288, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_5 : Ref sig .tc := ⟨.hbm, 53, rfl⟩
abbrev main_v22 : Ref sig .tc := ⟨.hbm, 54, rfl⟩
abbrev main_v23 : Ref sig .tc := ⟨.hbm, 55, rfl⟩
abbrev main_c_6 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_7 : Ref sig .tc := ⟨.hbm, 64, rfl⟩
abbrev main_v31 : Ref sig .tc := ⟨.hbm, 65, rfl⟩
abbrev main_v32 : Ref sig .tc := ⟨.hbm, 66, rfl⟩
abbrev main_c_8 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_9 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_10 : Ref sig .tc := ⟨.hbm, 85, rfl⟩
abbrev main_v49 : Ref sig .tc := ⟨.hbm, 86, rfl⟩
abbrev main_v50 : Ref sig .tc := ⟨.hbm, 87, rfl⟩
abbrev main_cst_11 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_12 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_13 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_14 : Ref sig .tc := ⟨.hbm, 101, rfl⟩
abbrev main_v61 : Ref sig .tc := ⟨.hbm, 102, rfl⟩
abbrev main_v62 : Ref sig .tc := ⟨.hbm, 103, rfl⟩
abbrev main_cst_15 : Ref sig .tc := ⟨.hbm, 104, rfl⟩
abbrev main_v63 : Ref sig .tc := ⟨.hbm, 105, rfl⟩
abbrev main_v64 : Ref sig .tc := ⟨.hbm, 106, rfl⟩
abbrev main_cst_16 : Ref sig .tc := ⟨.hbm, 107, rfl⟩
abbrev main_v65 : Ref sig .tc := ⟨.hbm, 108, rfl⟩
abbrev main_cst_17 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_18 : Ref sig .tc := ⟨.hbm, 113, rfl⟩
abbrev main_v69 : Ref sig .tc := ⟨.hbm, 114, rfl⟩
abbrev main_v70 : Ref sig .tc := ⟨.hbm, 115, rfl⟩
abbrev main_cst_19 : Ref sig .tc := ⟨.hbm, 116, rfl⟩
abbrev main_v71 : Ref sig .tc := ⟨.hbm, 117, rfl⟩
abbrev main_v72 : Ref sig .tc := ⟨.hbm, 118, rfl⟩

abbrev nD : Nat := 1
abbrev τ : Topo := Topo.v7x

variable {F : FTy → Type} [FloatOps F]
-- ==== Proof.KernelForm.lean ====
/- What the kernel's body computes, as ONE function of the four blocks it reads: the same steps for each of the eight
   classes, folded over the classes, and a closing scalar. The printed payloads cut the body where its statements are
   counted off; each is such a step by definitional unfolding. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Hand

open Idealize.ShloMosaic Idealize.ShloMosaic.TcCoe
open Idealize.SL Idealize.SL.Sem
open Cert.KernelIdeal.Gen

variable {F : FTy → Type} [FloatOps F]

/-- A class's matrix, out of the leading unit axis that it is loaded with. -/
def mat (o : Vec F S1x256x256 .f32) : FVec F S256x256 .f32 :=
  shapeCast S256x256 o shapeCasts_S1x256x256_S256x256

/-- The samples mapped by the class's matrix: one column per sample. -/
def mapX (x : Vec F S1024x256 .f32) (o : Vec F S1x256x256 .f32) : FVec F S256x1024 .f32 :=
  matmul dot_S256x256_S1024x256_S256x1024_1_1_0_0_n_n none (truncf .bf16 (mat o) bitsLt_bf16_f32)
    (truncf .bf16 x bitsLt_bf16_f32) (constant S256x1024 .f32 0x00000000#32)

/-- The class's prototypes mapped by the class's matrix: one row per prototype. -/
def mapP (p : Vec F S64x256 .f32) (o : Vec F S1x256x256 .f32) : FVec F S64x256 .f32 :=
  matmul dot_S64x256_S256x256_S64x256_1_1_0_0_n_n none
    (truncf .bf16 (shapeCast S64x256 p shapeCasts_S64x256_S64x256) bitsLt_bf16_f32)
    (truncf .bf16 (mat o) bitsLt_bf16_f32) (constant S64x256 .f32 0x00000000#32)

/-- The squared length of each mapped sample. -/
def normX (x : Vec F S1024x256 .f32) (o : Vec F S1x256x256 .f32) : FVec F S1x1024 .f32 :=
  shapeCast S1x1024 (multiReduction .add [0] S1024 (mulf (mapX x o) (mapX x o)) 0x00000000#32
    reduces_S256x1024_S1024 (.inl rfl) rfl) shapeCasts_S1024_S1x1024

/-- The squared length of each mapped prototype. -/
def normP (p : Vec F S64x256 .f32) (o : Vec F S1x256x256 .f32) : FVec F S64x1 .f32 :=
  shapeCast S64x1 (multiReduction .add [1] S64 (mulf (mapP p o) (mapP p o)) 0x00000000#32
    reduces_S64x256_S64 (.inl rfl) rfl) shapeCasts_S64_S64x1

/-- Minus twice the products of the mapped prototypes with the mapped samples. -/
def cross (x : Vec F S1024x256 .f32) (p : Vec F S64x256 .f32) (o : Vec F S1x256x256 .f32) : FVec F S64x1024 .f32 :=
  matmul dot_S64x256_S256x1024_S64x1024_1_0_0_1_n_n none
    (truncf .bf16 (mulf (broadcast S64x256 (Scalar.ofBits .f32 0xC0000000#32)) (mapP p o)) bitsLt_bf16_f32)
    (truncf .bf16 (mapX x o) bitsLt_bf16_f32) (constant S64x1024 .f32 0x00000000#32)

/-- Each sample's distance to the nearest prototype of the class. -/
def classMin (x : Vec F S1024x256 .f32) (p : Vec F S64x256 .f32) (o : Vec F S1x256x256 .f32) : FVec F S1x1024 .f32 :=
  addf (shapeCast S1x1024 (multiReduction .minimumf [0] S1024
    (addf (broadcastTo S64x1024 (normP p o) broadcasts_S64x1_S64x1024) (cross x p o)) 0x7F800000#32
    reduces_S64x1024_S1024 (.inl rfl) rfl) shapeCasts_S1024_S1x1024) (normX x o)

/-- The sum of the squares of the class's matrix, added to what came before. -/
def regStep (a : F .f32) (o : Vec F S1x256x256 .f32) : F .f32 :=
  Scalar.addf a (extractAt ![0, 0, 0] (shapeCast S1x1x1 (multiReduction .add [1, 2] S1
    (shapeCast S1x256x256 (mulf (mat o) (mat o)) shapeCasts_S256x256_S1x256x256) 0x00000000#32
    reduces_S1x256x256_S1 (.inl rfl) rfl) shapeCasts_S1_S1x1x1) inpos_S1x1x1_p0_0_0)

/-- The class's distance added where the label is the class, zero elsewhere. -/
def posStep (y : Vec F S1x1024 .i32) (k : BitVec 32) (a d : FVec F S1x1024 .f32) : FVec F S1x1024 .f32 :=
  addf a (select (cmpi .eq (shapeCast S1x1024 y shapeCasts_S1x1024_S1x1024) (broadcast S1x1024 k)) d
    (broadcast S1x1024 (Scalar.ofBits .f32 0x00000000#32)))

/-- The minimum with the class's distance where the label is another class, with infinity where it is the class. -/
def negStep (y : Vec F S1x1024 .i32) (k : BitVec 32) (a d : FVec F S1x1024 .f32) : FVec F S1x1024 .f32 :=
  minimumf a (select (cmpi .eq (shapeCast S1x1024 y shapeCasts_S1x1024_S1x1024) (broadcast S1x1024 k))
    (broadcast S1x1024 (Scalar.ofBits .f32 0x7F800000#32)) d)

/-- The sigmoid of each sample's relative difference of the two distances. -/
def sigmoid (pos neg : FVec F S1x1024 .f32) : FVec F S1x1024 .f32 :=
  divf (broadcast S1x1024 (Scalar.ofBits .f32 0x3F800000#32))
    (addf (broadcast S1x1024 (Scalar.ofBits .f32 0x3F800000#32))
      (exp (mulf (broadcast S1x1024 (Scalar.ofBits .f32 0xBF800000#32)) (divf (subf pos neg) (addf pos neg)))))

/-- The mean sigmoid, and a hundredth of the root of the matrices' sum of squares. -/
def close (pos neg : FVec F S1x1024 .f32) (reg : F .f32) : F .f32 :=
  Scalar.addf (Scalar.divf (extractAt ![0, 0, 0] (shapeCast S1x1x1 (multiReduction .add [1, 2] S1
      (shapeCast S1x1x1024 (sigmoid pos neg) shapeCasts_S1x1024_S1x1x1024) 0x00000000#32
      reduces_S1x1x1024_S1 (.inl rfl) rfl) shapeCasts_S1_S1x1x1) inpos_S1x1x1_p0_0_0) (Scalar.ofBits .f32 0x44800000#32))
    (Scalar.mulf (Scalar.ofBits .f32 0x3C23D70A#32) (Scalar.sqrt reg))

/-- A step taken for the classes 0, 1, …, 7 in turn. -/
def steps {α : Type} (f : Fin 8 → α → α) (a : α) : α :=
  f 7 (f 6 (f 5 (f 4 (f 3 (f 2 (f 1 (f 0 a)))))))

/-- Matrix `k` of the eight, under a leading unit axis. -/
def omegaAt (om : Vec F S8x256x256 .f32) (k : Fin 8) : Vec F S1x256x256 .f32 :=
  fun j => om (ix3 k (j 1) (j 2))

/-- Class `k`'s prototypes: columns `256 k, …, 256 k + 255`. -/
def protoAt (pg : Vec F S64x2048 .f32) (k : Fin 8) : Vec F S64x256 .f32 :=
  fun j => pg (ix2 (j 0) ⟨256 * k.val + (j 1).val, by have := (j 1).isLt; have h : S64x256.size 1 = 256 := rfl; omega⟩)

/-- The kernel's scalar as a function of the labels, the samples, the grouped prototypes and the matrices. -/
def loss (y : Vec F S1x1024 .i32) (x : Vec F S1024x256 .f32) (pg : Vec F S64x2048 .f32) (om : Vec F S8x256x256 .f32) : F .f32 :=
  close
    (steps (fun k a => posStep y (BitVec.ofNat 32 k.val) a (classMin x (protoAt pg k) (omegaAt om k)))
      (broadcast S1x1024 (Scalar.ofBits .f32 0x00000000#32)))
    (steps (fun k a => negStep y (BitVec.ofNat 32 k.val) a (classMin x (protoAt pg k) (omegaAt om k)))
      (broadcast S1x1024 (Scalar.ofBits .f32 0x7F800000#32)))
    (steps (fun k a => regStep a (omegaAt om k)) (Scalar.ofBits .f32 0x00000000#32))

/-- A load of one matrix at a literal position is that matrix. -/
theorem ld_omega (om : Vec F S8x256x256 .f32) (k : ℕ) (hk : k < 8)
    (inb : ∀ a, (![k, 0, 0] : Fin 3 → ℕ) a + (![1, 256, 256] : Fin 3 → ℕ) a ≤ S8x256x256.size a) :
    View.ld (Val := Elt F) (e' := .f32) om (Rect.unit (s := S8x256x256) ![k, 0, 0] ![1, 256, 256] inb) = omegaAt om ⟨k, hk⟩ := by
  funext j
  refine View.ld_unit_apply_of om _ _ _ j _ fun a => ?_
  have h0 : (j 0).val < 1 := (j 0).isLt
  fin_cases a
  · show k = k + (j 0).val; omega
  · show (j 1).val = 0 + (j 1).val; omega
  · show (j 2).val = 0 + (j 2).val; omega

/-- A load of 256 columns at a literal position is a class's prototypes. -/
theorem ld_proto (pg : Vec F S64x2048 .f32) (o k : ℕ) (hk : k < 8) (ho : o = 256 * k)
    (inb : ∀ a, (![0, o] : Fin 2 → ℕ) a + (![64, 256] : Fin 2 → ℕ) a ≤ S64x2048.size a) :
    View.ld (Val := Elt F) (e' := .f32) pg (Rect.unit (s := S64x2048) ![0, o] ![64, 256] inb) = protoAt pg ⟨k, hk⟩ := by
  funext j
  refine View.ld_unit_apply_of pg _ _ _ j _ fun a => ?_
  fin_cases a
  · show (j 0).val = 0 + (j 0).val; omega
  · show 256 * k + (j 1).val = o + (j 1).val; omega

variable (m : (ℓ : Loc nD τ sig) → Buf (Elt F) ℓ)

/-- The body leaves `loss` of its four blocks. -/
theorem outsAt0_eq (c : Dev nD) (t : Fin cfg0.N) :
    outsAt0 m c t = fun _ => loss (iblk m c 0 t) (iblk m c 1 t) (iblk m c 2 t) (iblk m c 3 t) := by
  unfold outsAt0
  frame_out
  simp only [read_unread_whole]
  rw [ld_omega (iblk m c 3 t) 0 (by decide), ld_omega (iblk m c 3 t) 1 (by decide), ld_omega (iblk m c 3 t) 2 (by decide),
    ld_omega (iblk m c 3 t) 3 (by decide), ld_omega (iblk m c 3 t) 4 (by decide), ld_omega (iblk m c 3 t) 5 (by decide),
    ld_omega (iblk m c 3 t) 6 (by decide), ld_omega (iblk m c 3 t) 7 (by decide),
    ld_proto (iblk m c 2 t) 0 0 (by decide) rfl, ld_proto (iblk m c 2 t) 256 1 (by decide) rfl,
    ld_proto (iblk m c 2 t) 512 2 (by decide) rfl, ld_proto (iblk m c 2 t) 768 3 (by decide) rfl,
    ld_proto (iblk m c 2 t) 1024 4 (by decide) rfl, ld_proto (iblk m c 2 t) 1280 5 (by decide) rfl,
    ld_proto (iblk m c 2 t) 1536 6 (by decide) rfl, ld_proto (iblk m c 2 t) 1792 7 (by decide) rfl]
  rfl

end Cert.KernelIdeal.Hand

end
-- ==== Proof.KernelRun.lean ====
/- What the kernel's program leaves in its result after a run: `loss` of the four argument arrays, the labels laid out
   as one row and the prototypes eight to a row. -/
module

public import proofs.«01_k».proof.Proof.KernelForm
public import Idealize.ShloMosaic.Lib.Claim

@[expose] public section

set_option maxRecDepth 16384

noncomputable section

namespace Cert.KernelIdeal.Hand

open Idealize.ShloMosaic Idealize.ShloMosaic.TcCoe
open Idealize.SL Idealize.SL.Sem
open Cert.KernelIdeal.Gen

variable {F : FTy → Type} [FloatOps F] (m : (ℓ : Loc nD τ sig) → Buf (Elt F) ℓ)

/-- The one grid point's block of the labels is the row of all labels. -/
theorem iblk_y (c : Dev nD) (t : Fin cfg0.N) :
    iblk m c 0 t = shapeCast S1x1024 (m (c.tc.loc main_arg1)) shapeCasts_S1024_S1x1024 := by
  funext j
  have h : ∀ t : Fin cfg0.N, win0_0.index t = ![0, 0] := by decide +kernel
  blk_ext [iblk, V, h t]

/-- The block of the samples is the array of the samples. -/
theorem iblk_x (c : Dev nD) (t : Fin cfg0.N) : iblk m c 1 t = m (c.tc.loc main_arg0) := by
  funext j
  have h : ∀ t : Fin cfg0.N, win0_1.index t = ![0, 0] := by decide +kernel
  blk_ext [iblk, V, h t]

/-- The block of the prototypes is their array, eight to a row. -/
theorem iblk_pg (c : Dev nD) (t : Fin cfg0.N) :
    iblk m c 2 t = shapeCast S64x2048 (m (c.tc.loc main_arg2)) shapeCasts_S512x256_S64x2048 := by
  funext j
  have h : ∀ t : Fin cfg0.N, win0_2.index t = ![0, 0] := by decide +kernel
  blk_ext [iblk, V, h t]

/-- The block of the matrices is their array. -/
theorem iblk_om (c : Dev nD) (t : Fin cfg0.N) : iblk m c 3 t = m (c.tc.loc main_arg3) := by
  funext j
  have h : ∀ t : Fin cfg0.N, win0_3.index t = ![0, 0, 0] := by decide +kernel
  blk_ext [iblk, V, h t]

/-- `loss` of the program's argument arrays on one device. -/
def result (c : Dev nD) : F .f32 :=
  loss (shapeCast S1x1024 (m (c.tc.loc main_arg1)) shapeCasts_S1024_S1x1024) (m (c.tc.loc main_arg0))
    (shapeCast S64x2048 (m (c.tc.loc main_arg2)) shapeCasts_S512x256_S64x2048) (m (c.tc.loc main_arg3))

/-- The kernel call's output array after its one grid point. -/
theorem arr_out (c : Dev nD) : (dats m 0 c).arrAt 4 cfg0.N = fun _ => result m c := by
  refine (dats m 0 c).arrAt_eq_of_covers 4 _ (by decide +kernel) fun t hf y => ?_
  blk_simp
  rw [after0_4, outsAt0_eq, iblk_y, iblk_x, iblk_pg, iblk_om]
  rfl

/-- The program's result: the call's one number, read as a scalar. -/
theorem tail_out (c : Dev nD) :
    Pipeline.afterTail₀ cfgs (dats m) 0 (V0 m) [hostOps1] c main_v3 = fun _ => result m c := by
  have h4 : Pipeline.withArrays spec0 c (V0 m c) (fun w => (dats m 0 c).arrAt w cfg0.N) (Proc.devRef .tc main_v2)
      = fun _ => result m c :=
    (Pipeline.withArrays_arr spec0 launch0.win.arr_inj c (V0 m c) (fun w => (dats m 0 c).arrAt w cfg0.N) 4).trans (arr_out m c)
  unfold Pipeline.afterTail₀
  simp only [hostOps1, List.flatten_cons, List.flatten_nil, List.append_nil]
  after_results_simp
  rw [show Pipeline.withArrays (cfgs 0).spec c (V0 m c) (fun w => (dats m 0 c).arrAt w (cfgs 0).N) (Proc.devRef .tc main_v2)
      = fun _ => result m c from h4]
  rfl

/-- Every run ends with the result at `result` and the four argument arrays unchanged. -/
theorem run (ρ : Dev nD → PrngReg) :
    θ_run (defs (F := F)) (onTc (τ := τ) (main (F := F))) ⟨m, fun _ => 0, ρ⟩ (fun r => ∀ c : Dev nD,
      r.2.mem (c.tc.loc main_v3) = (fun _ => result m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) := by
  run_from Gen.run_main m ρ
  · exact tail_out m c
  · exact W_main_arg1 m (dats m) c
  · exact W_main_arg2 m (dats m) c

end Cert.KernelIdeal.Hand

end
-- ==== Proof.Consts.lean ====
/- The constants of the two programs as extended reals, and a choice by the equality of two words. -/
module

public import Idealize.ShloMosaic.Lib.Pointwise
public import Idealize.ShloMosaic.Lib.IdealHost

@[expose] public section

noncomputable section

namespace Cert.Glmvq

open Idealize.ShloMosaic

/-- The pattern of infinity. -/
theorem const_inf : Ideal.ofBits .f32 0x7F800000#32 = ⊤ := by
  simp [Ideal.ofBits, Ideal.ieee]

/-- The pattern of two. -/
theorem const_two : Ideal.ofBits .f32 0x40000000#32 = ((2 : ℝ) : EReal) := by
  simp [Ideal.ofBits, Ideal.ieee, -EReal.coe_mul]; norm_num

/-- The pattern of minus two. -/
theorem const_neg_two : Ideal.ofBits .f32 0xC0000000#32 = ((-2 : ℝ) : EReal) := by
  simp [Ideal.ofBits, Ideal.ieee, -EReal.coe_mul, -EReal.coe_neg]; norm_num

/-- The pattern of 1024. -/
theorem const_1024 : Ideal.ofBits .f32 0x44800000#32 = ((1024 : ℝ) : EReal) := by
  simp [Ideal.ofBits, Ideal.ieee, -EReal.coe_mul]; norm_num

/-- The pattern of a hundredth is a positive real's. -/
theorem const_hundredth_pos : 0 < Ideal.ofBits .f32 0x3C23D70A#32 := by
  simp [Ideal.ofBits, Ideal.ieee, -EReal.coe_mul]

/-- A choice by the equality of two words. -/
theorem select_cmpi_eq {α : Type} (u v : BitVec 32) (a b : α) :
    Scalar.select (IntOp.cmpi .eq u v) a b = if u = v then a else b := by
  by_cases h : u = v
  · subst h; simp [Scalar.select, IntOp.cmpi]
  · have h' : (u == v) = false := beq_eq_false_iff_ne.mpr h
    simp [Scalar.select, IntOp.cmpi, h, h']

/-- The bit of an equality of two words is set when they are equal. -/
theorem cmpi_eq_one (u v : BitVec 32) : IntOp.cmpi .eq u v = 1#1 ↔ u = v := by
  by_cases h : u = v
  · subst h; simp [IntOp.cmpi]
  · have h' : (u == v) = false := beq_eq_false_iff_ne.mpr h
    simp [IntOp.cmpi, h, h']

/-- A choice by a bit's complement. -/
theorem ite_not_bit {α : Type} (u : BitVec 1) (a b : α) :
    (if ~~~u = 1#1 then a else b) = if u = 1#1 then b else a := by
  have h : u = 0#1 ∨ u = 1#1 := by revert u; decide
  rcases h with rfl | rfl <;> rfl

/-- The sigmoid of the relative difference of two distances. -/
def relSig (u v : EReal) : EReal :=
  Ideal.div 1 (1 + Ideal.exp (Ideal.ofBits .f32 0xBF800000#32 * Ideal.div (u - v) (u + v)))

/-- A quotient of what is not negative by what is positive is not negative. -/
theorem div_nonneg (u v : EReal) (hu : 0 ≤ u) (hv : 0 < v) : 0 ≤ Ideal.div u v := by
  rw [Ideal.div, if_neg hv.ne']
  exact mul_nonneg hu (EReal.inv_nonneg_of_nonneg hv.le)

/-- An exponential is not negative. -/
theorem exp_nonneg (u : EReal) : 0 ≤ Ideal.exp u := by
  induction u using EReal.rec with
  | bot => exact le_refl _
  | coe r => exact EReal.coe_nonneg.mpr (Real.exp_pos r).le
  | top => exact le_top

/-- The sigmoid is not negative, whatever the distances. -/
theorem relSig_nonneg (u v : EReal) : 0 ≤ relSig u v :=
  div_nonneg _ _ zero_le_one (lt_of_lt_of_le zero_lt_one (le_add_of_nonneg_right (exp_nonneg _)))

/-- With an infinite sum of squares the closing scalar is infinite, whatever the sigmoids' sum. -/
theorem close_top (s : EReal) (hs : 0 ≤ s) :
    Ideal.div s (Ideal.ofBits .f32 0x44800000#32) + Ideal.ofBits .f32 0x3C23D70A#32 * Ideal.sqrt ⊤ = ⊤ := by
  have h : 0 ≤ Ideal.div s (Ideal.ofBits .f32 0x44800000#32) := by
    refine div_nonneg _ _ hs ?_
    rw [const_1024]
    exact EReal.coe_pos.mpr (by norm_num)
  rw [show Ideal.sqrt ⊤ = ⊤ from rfl, EReal.mul_top_of_pos const_hundredth_pos]
  exact EReal.add_top_of_ne_bot (ne_of_gt (lt_of_lt_of_le EReal.bot_lt_zero h))

end Cert.Glmvq

end
-- ==== Proof.PreValue.lean ====
/- What the precondition says of single entries: a label is one of the eight classes, and the entries of
   the samples and of the prototypes are reals. -/
module

public import proofs.«01_k».proof.Pre_labels_and_finite
public import proofs.«01_k».proof.Proof.Consts

@[expose] public section

noncomputable section

namespace Cert.Glmvq

open Idealize.ShloMosaic
open Cert.Pre_labels_and_finite

/-- A word from 0 to 7, read signed, is a class's. -/
theorem class_of_word (v : BitVec 32)
    (h : IntOp.andi (IntOp.cmpi .sge v 0#32) (IntOp.cmpi .slt v 8#32) = 1#1) : ∃ l : Fin 8, v = BitVec.ofNat 32 l.val := by
  have h' : (0#32).sle v = true ∧ v.slt 8#32 = true := by
    revert h
    simp only [IntOp.andi, IntOp.cmpi]
    cases (0#32).sle v <;> cases v.slt 8#32 <;> simp
  have h0 : 0 ≤ v.toInt := by simpa [BitVec.sle] using h'.1
  have h8 : v.toInt < 8 := by simpa [BitVec.slt] using h'.2
  have hn : v.toNat < 8 := by
    rw [BitVec.toInt_eq_toNat_cond] at h0 h8
    have := v.isLt
    split at h8 <;> omega
  exact ⟨⟨v.toNat, hn⟩, by simp⟩

/-- An extended real of absolute value below infinity is a real. -/
theorem real_of_finite (v : EReal) (h : Ideal.cmp .olt (max v (-v)) (Ideal.ofBits .f32 0x7F800000#32) = 1#1) :
    ∃ r : ℝ, v = (r : EReal) := by
  rw [const_inf] at h
  induction v using EReal.rec with
  | bot => simp [Ideal.cmp] at h
  | coe r => exact ⟨r, rfl⟩
  | top => simp [Ideal.cmp] at h

variable [Facts] (x : FVec Ideal S1024x256 .f32) (y : IVec S1024 32) (p : FVec Ideal S512x256 .f32) (om : FVec Ideal S8x256x256 .f32)

/-- Every label is a class. -/
theorem label_class (h : (fn x y p om).1 = fun _ => 1#1) (j : S1024.Idx) : ∃ l : Fin 8, y j = BitVec.ofNat 32 l.val :=
  class_of_word _ (congrFun h j)

/-- Every sample's entry is a real. -/
theorem sample_real (h : (fn x y p om).2.1 = fun _ => 1#1) (j : S1024x256.Idx) : ∃ r : ℝ, x j = (r : EReal) :=
  real_of_finite _ (congrFun h j)

/-- Every prototype's entry is a real. -/
theorem prototype_real (h : (fn x y p om).2.2 = fun _ => 1#1) (j : S512x256.Idx) : ∃ r : ℝ, p j = (r : EReal) :=
  real_of_finite _ (congrFun h j)

end Cert.Glmvq

end
-- ==== Proof.KernelValue.lean ====
/- The kernel's steps read at an index, over the extended reals. -/
module

public import proofs.«01_k».proof.Proof.KernelForm
public import proofs.«01_k».proof.Proof.Consts
public import Idealize.ShloMosaic.Lib.Pointwise
public import Idealize.ShloMosaic.Lib.IdealHost

@[expose] public section

set_option maxRecDepth 16384

noncomputable section

namespace Cert.KernelIdeal.Hand

open Idealize.ShloMosaic Idealize.ShloMosaic.TcCoe
open Idealize.SL Idealize.SL.Sem
open Cert.KernelIdeal.Gen Cert.Glmvq

variable (y : Vec Ideal S1x1024 .i32) (x : Vec Ideal S1024x256 .f32) (p : Vec Ideal S64x256 .f32) (o : Vec Ideal S1x256x256 .f32)

/-- A mapped sample's entry: the matrix's row with the sample. -/
theorem mapX_apply (e : Fin 256) (b : Fin 1024) :
    mapX x o (ix2 e b) = ∑ d : Fin 256, o (ix3 0 e d) * x (ix2 b d) := by
  pointwise [mapX, mat]

/-- A mapped prototype's entry: the prototype with the matrix's row. -/
theorem mapP_apply (q : Fin 64) (e : Fin 256) :
    mapP p o (ix2 q e) = ∑ d : Fin 256, p (ix2 q d) * o (ix3 0 e d) := by
  pointwise [mapP, mat]

/-- A mapped sample's squared length. -/
theorem normX_apply (b : Fin 1024) :
    normX x o (ix2 0 b) = ∑ e : Fin 256, mapX x o (ix2 e b) * mapX x o (ix2 e b) := by
  pointwise [normX]

/-- A mapped prototype's squared length. -/
theorem normP_apply (q : Fin 64) :
    normP p o (ix2 q 0) = ∑ e : Fin 256, mapP p o (ix2 q e) * mapP p o (ix2 q e) := by
  pointwise [normP]

/-- Minus twice the product of a mapped prototype and a mapped sample. -/
theorem cross_apply (q : Fin 64) (b : Fin 1024) :
    cross x p o (ix2 q b) = ∑ e : Fin 256, (Ideal.ofBits .f32 0xC0000000#32 * mapP p o (ix2 q e)) * mapX x o (ix2 e b) := by
  pointwise [cross]

/-- A sample's distance to the class: the least over the class's prototypes, and the sample's squared length. -/
theorem classMin_apply (b : Fin 1024) :
    classMin x p o (ix2 0 b)
      = Finset.univ.fold min ⊤ (fun q : Fin 64 => normP p o (ix2 q 0) + cross x p o (ix2 q b)) + normX x o (ix2 0 b) := by
  pointwise [classMin]
  rw [const_inf]

/-- The sum of squares after one more class. -/
theorem regStep_apply (a : Ideal .f32) :
    regStep a o = a + ∑ e : Fin 256, ∑ d : Fin 256, o (ix3 0 e d) * o (ix3 0 e d) := by
  pointwise [regStep, mat]

/-- The own class's distance after one more class. -/
theorem posStep_apply (k : BitVec 32) (a d : FVec Ideal S1x1024 .f32) (b : Fin 1024) :
    posStep y k a d (ix2 0 b) = a (ix2 0 b) + if y (ix2 0 b) = k then d (ix2 0 b) else 0 := by
  pointwise [posStep]
  rw [select_cmpi_eq]

/-- The other classes' distance after one more class. -/
theorem negStep_apply (k : BitVec 32) (a d : FVec Ideal S1x1024 .f32) (b : Fin 1024) :
    negStep y k a d (ix2 0 b) = min (a (ix2 0 b)) (if y (ix2 0 b) = k then ⊤ else d (ix2 0 b)) := by
  pointwise [negStep]
  rw [select_cmpi_eq, const_inf]

/-- The sigmoid at a sample. -/
theorem sigmoid_apply (pos neg : FVec Ideal S1x1024 .f32) (b : Fin 1024) :
    sigmoid pos neg (ix2 0 b) = relSig (pos (ix2 0 b)) (neg (ix2 0 b)) := by
  pointwise [sigmoid, relSig]

/-- The closing scalar: the sum of the sigmoids over 1024, and a hundredth of the root. -/
theorem close_apply (pos neg : FVec Ideal S1x1024 .f32) (r : Ideal .f32) :
    close pos neg r
      = Ideal.div (∑ b : Fin 1024, sigmoid pos neg (ix2 0 b)) (Ideal.ofBits .f32 0x44800000#32)
        + Ideal.ofBits .f32 0x3C23D70A#32 * Ideal.sqrt r := by
  pointwise [close]
  rw [Fin.sum_univ_one]
  rfl

end Cert.KernelIdeal.Hand

end
-- ==== Proof.RefForm.lean ====
/- The reference's result as ONE function of its four arguments, its steps named one by one. -/
module

public import proofs.«01_k».proof.Proof.Gen.ReferenceIdeal.Run

@[expose] public section

set_option maxRecDepth 16384

noncomputable section

namespace Cert.ReferenceIdeal.Hand

open Cert.ReferenceIdeal Cert.ReferenceIdeal.Gen Idealize.ShloMosaic Idealize.ShloMosaic.TcCoe Idealize.SL.Sem

/-- The divisor of the remainder, eight: a divisor zero would be replaced by one. -/
def eight : IVec S_ 32 :=
  select (cmpi .eq (id (constantI S_ 32 8#32)) (constantI S_ 32 0#32)) (constantI S_ 32 1#32) (id (constantI S_ 32 8#32))

/-- The position's remainder by eight, of the dividend's sign. -/
def rest : IVec S512 32 :=
  Host.remsi (iotaInDim S512 32 0) (broadcastInDim S512 ![] bcast_S_S512 eight)

/-- Each prototype's class: the remainder by eight, moved to the divisor's sign. -/
def classes : IVec S512 32 :=
  select (andi (cmpi .ne (cmpi .slt rest (broadcastInDim S512 ![] bcast_S_S512 (constantI S_ 32 0#32)))
      (broadcastInDim S512 ![] bcast_S_S512 (cmpi .slt eight (constantI S_ 32 0#32))))
      (cmpi .ne rest (broadcastInDim S512 ![] bcast_S_S512 (constantI S_ 32 0#32))))
    (addi rest (broadcastInDim S512 ![] bcast_S_S512 eight)) rest

/-- Index words with the negative ones counted from the end of an axis of extent `n`. -/
def wrap (n : BitVec 32) (v : IVec S512 32) : IVec S512 32 :=
  select (cmpi .slt v (broadcastInDim S512 ![] bcast_S_S512 (constantI S_ 32 0#32)))
    (addi v (broadcastInDim S512 ![] bcast_S_S512 (constantI S_ 32 n))) v

/-- The words as one column. -/
def column (v : IVec S512 32) : IVec S512x1 32 := broadcastInDim S512x1 ![0] bcast_S512_S512x1_0 v

/-- Each prototype's class and its own position, side by side. -/
def pairs : IVec S512x2 32 :=
  concatenate S512x2 1 [⟨S512x1, column (wrap 8#32 classes)⟩, ⟨S512x1, column (wrap 512#32 (iotaInDim S512 32 0))⟩]
    concatenates_S512x1_S512x1_S512x2_d1

variable {F : FTy → Type} [FloatOps F]

/-- The samples mapped by every matrix. -/
def mapX (x : FVec F S1024x256 .f32) (om : FVec F S8x256x256 .f32) : FVec F S1024x8x256 .f32 :=
  Host.dotGeneral dot_S1024x256_S8x256x256_S1024x8x256_1_2_0_01_n_n none x om

/-- Each prototype's matrix. -/
def mats (om : FVec F S8x256x256 .f32) : FVec F S512x256x256 .f32 :=
  Host.gather gather_S8x256x256_S512x1_S512x256x256_12_0_n_n_0_1_1256256 om (column (wrap 8#32 classes))

/-- Each prototype mapped by its own class's matrix. -/
def mapP (p : FVec F S512x256 .f32) (om : FVec F S8x256x256 .f32) : FVec F S512x256 .f32 :=
  Host.dotGeneral dot_S512x256x256_S512x256_S512x256_2_1_1_n_0_0 none (mats om) p

/-- The squared length of each mapped sample, per matrix. -/
def normX (x : FVec F S1024x256 .f32) (om : FVec F S8x256x256 .f32) : FVec F S1024x8 .f32 :=
  Host.reduceAdd (mulf (mapX x om) (mapX x om)) (constant S_ .f32 0x00000000#32) reducesTo_S1024x8x256_S1024x8_d2 h_S_

/-- The squared length of each mapped prototype. -/
def normP (p : FVec F S512x256 .f32) (om : FVec F S8x256x256 .f32) : FVec F S512 .f32 :=
  Host.reduceAdd (mulf (mapP p om) (mapP p om)) (constant S_ .f32 0x00000000#32) reducesTo_S512x256_S512_d1 h_S_

/-- The products of the samples mapped by every matrix with the mapped prototypes. -/
def crossAll (x : FVec F S1024x256 .f32) (p : FVec F S512x256 .f32) (om : FVec F S8x256x256 .f32) : FVec F S1024x8x512 .f32 :=
  Host.dotGeneral dot_S1024x8x256_S512x256_S1024x8x512_2_1_01_0_n_n none (mapX x om) (mapP p om)

/-- Those products at each prototype's own class. -/
def cross (x : FVec F S1024x256 .f32) (p : FVec F S512x256 .f32) (om : FVec F S8x256x256 .f32) : FVec F S1024x512 .f32 :=
  Host.gather gather_S1024x8x512_S512x2_S1024x512_0_12_n_n_12_1_102411 (crossAll x p om) pairs

/-- The samples' squared lengths at each prototype's class. -/
def normXAt (x : FVec F S1024x256 .f32) (om : FVec F S8x256x256 .f32) : FVec F S1024x512 .f32 :=
  Host.gather gather_S1024x8_S512x1_S1024x512_0_1_n_n_1_1_10241 (normX x om) (column (wrap 8#32 classes))

/-- The squared distance of each sample to each prototype, by the prototype's class's matrix. -/
def dist (x : FVec F S1024x256 .f32) (p : FVec F S512x256 .f32) (om : FVec F S8x256x256 .f32) : FVec F S1024x512 .f32 :=
  subf (addf (normXAt x om)
      (broadcastInDim S1024x512 ![0, 1] bcast_S1x512_S1024x512_0_1 (broadcastInDim S1x512 ![1] bcast_S512_S1x512_1 (normP p om))))
    (mulf (broadcastInDim S1024x512 ![] bcast_S_S1024x512 (constant S_ .f32 0x40000000#32)) (cross x p om))

/-- Whether the prototype's class is the sample's label. -/
def same (y : IVec S1024 32) : IVec S1024x512 1 :=
  cmpi .eq (broadcastInDim S1024x512 ![0, 1] bcast_S1x512_S1024x512_0_1 (broadcastInDim S1x512 ![1] bcast_S512_S1x512_1 classes))
    (broadcastInDim S1024x512 ![0, 1] bcast_S1024x1_S1024x512_0_1 (broadcastInDim S1024x1 ![0] bcast_S1024_S1024x1_0 y))

/-- The least distance over the prototypes that the mask marks. -/
def least (b : IVec S1024x512 1) (d : FVec F S1024x512 .f32) : FVec F S1024 .f32 :=
  Host.reduce FloatOps.minimumf
    (select b d (broadcastInDim S1024x512 ![] bcast_S_S1024x512 (constant S_ .f32 0x7F800000#32)))
    (constant S_ .f32 0x7F800000#32) reducesTo_S1024x512_S1024_d1 h_S_

/-- The sigmoid of each sample's relative difference of the two distances. -/
def sigmoid (pos neg : FVec F S1024 .f32) : FVec F S1024 .f32 :=
  Host.divf (broadcastInDim S1024 ![] bcast_S_S1024 (constant S_ .f32 0x3F800000#32))
    (addf (broadcastInDim S1024 ![] bcast_S_S1024 (constant S_ .f32 0x3F800000#32))
      (Host.exp (mulf (broadcastInDim S1024 ![] bcast_S_S1024 (constant S_ .f32 0xBF800000#32))
        (Host.divf (subf pos neg) (addf pos neg)))))

/-- All matrices' entries in one line. -/
def flat (om : FVec F S8x256x256 .f32) : FVec F S524288 .f32 := shapeCast S524288 om shapeCasts_S8x256x256_S524288

/-- The sum of the squares of all matrices' entries. -/
def reg (om : FVec F S8x256x256 .f32) : FVec F S_ .f32 :=
  Host.reduceAdd (mulf (flat om) (flat om)) (constant S_ .f32 0x00000000#32) reducesTo_S524288_S_d0 h_S_

/-- The mean sigmoid, and a hundredth of the root of the matrices' sum of squares. -/
def close (pos neg : FVec F S1024 .f32) (r : FVec F S_ .f32) : FVec F S_ .f32 :=
  addf (Host.divf (Host.reduceAdd (sigmoid pos neg) (constant S_ .f32 0x00000000#32) reducesTo_S1024_S_d0 h_S_)
      (constant S_ .f32 0x44800000#32))
    (mulf (constant S_ .f32 0x3C23D70A#32) (Host.sqrt r))

/-- The reference's result as a function of the samples, the labels, the prototypes and the matrices. -/
def loss (x : FVec F S1024x256 .f32) (y : IVec S1024 32) (p : FVec F S512x256 .f32) (om : FVec F S8x256x256 .f32) : FVec F S_ .f32 :=
  close (least (same y) (dist x p om)) (least (noti (same y)) (dist x p om)) (reg om)

set_option maxHeartbeats 2000000 in
/-- What the reference's run leaves is `loss` of its arguments. -/
theorem res_eq (m : (ℓ : Loc nD τ sig) → Buf (Elt F) ℓ) (c : Dev nD) :
    Value.res_main_v72 m c = loss (m (c.tc.loc main_arg0)) (m (c.tc.loc main_arg1)) (m (c.tc.loc main_arg2)) (m (c.tc.loc main_arg3)) := by
  unfold Value.res_main_v72
  rfl

end Cert.ReferenceIdeal.Hand

end
-- ==== Proof.Spec.lean ====
/- The equations between the two programs' arithmetic, on extended reals alone: a distance written in two ways, minima
   taken class by class or over all prototypes at once, and the choice of the own class. -/
module

public import proofs.«01_k».proof.Proof.KernelForm
public import proofs.«01_k».proof.Proof.Consts

@[expose] public section

noncomputable section

namespace Cert.Glmvq

open Idealize.ShloMosaic
open Cert.KernelIdeal.Hand (steps)

/-- Prototype `q` of class `k`. -/
def member (q : Fin 64) (k : Fin 8) : Fin 512 := ⟨8 * q.val + k.val, by omega⟩

/-- The class of a prototype. -/
def cls (p : Fin 512) : Fin 8 := ⟨p.val % 8, Nat.mod_lt _ (by decide)⟩

/-- The class of a class's prototype. -/
theorem cls_member (q : Fin 64) (k : Fin 8) : cls (member q k) = k :=
  Fin.ext (by show (8 * q.val + k.val) % 8 = k.val; omega)

/-- Every prototype is one of its class's. -/
theorem member_cls (p : Fin 512) : member ⟨p.val / 8, by omega⟩ (cls p) = p :=
  Fin.ext (by show 8 * (p.val / 8) + p.val % 8 = p.val; omega)

/-- A finite sum of reals is a real. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- The squared distance in two forms, of mapped vectors with real entries: the factor minus two inside the sum of
    products, or outside it. -/
theorem dist_forms (t s : Fin 256 → ℝ) :
    (∑ e, (t e : EReal) * t e + ∑ e, (((-2 : ℝ) : EReal) * t e) * s e) + ∑ e, (s e : EReal) * s e
      = (∑ e, (s e : EReal) * s e + ∑ e, (t e : EReal) * t e) - ((2 : ℝ) : EReal) * ∑ e, (s e : EReal) * t e := by
  simp only [← EReal.coe_mul, coe_sum, ← EReal.coe_add, ← EReal.coe_sub]
  congr 1
  rw [show ∑ e, -2 * t e * s e = -2 * ∑ e, s e * t e by
    rw [Finset.mul_sum]; exact Finset.sum_congr rfl fun e _ => by ring]
  ring

/-- A square is not negative. -/
theorem sq_nonneg (u : EReal) : 0 ≤ u * u := by
  rcases le_total 0 u with h | h
  · exact mul_nonneg h h
  · rw [← neg_mul_neg]
    exact mul_nonneg (EReal.neg_nonneg.mpr h) (EReal.neg_nonneg.mpr h)

/-- The square of what is no real is infinite. -/
theorem sq_top (u : EReal) (h : ¬ ∃ r : ℝ, u = (r : EReal)) : u * u = ⊤ := by
  induction u using EReal.rec with
  | bot => exact EReal.bot_mul_bot
  | coe r => exact absurd ⟨r, rfl⟩ h
  | top => exact EReal.top_mul_top

/-- A sum of terms that are not negative, one of them infinite, is infinite. -/
theorem sum_top {n : ℕ} (f : Fin n → EReal) (h : ∀ i, 0 ≤ f i) (i : Fin n) (hi : f i = ⊤) : ∑ i, f i = ⊤ :=
  top_le_iff.mp (hi ▸ Finset.single_le_sum (fun i _ => h i) (Finset.mem_univ i))

/-- Adding a real to each of the values adds it to their minimum. -/
theorem fold_min_add {ι : Type} [Fintype ι] (f : ι → EReal) (r : ℝ) :
    Finset.univ.fold min ⊤ f + (r : EReal) = Finset.univ.fold min ⊤ fun i => f i + r := by
  have h := Finset.fold_hom (op := min) (op' := min) (s := Finset.univ) (b := (⊤ : EReal)) (f := f)
    (m := fun v => v + (r : EReal)) fun u v => (min_add_add_right u v (r : EReal)).symm
  rw [EReal.top_add_coe] at h
  exact h.symm

/-- Steps of arrays read at an index are steps of the entries. -/
theorem steps_apply {J : Type} (f : Fin 8 → (J → EReal) → J → EReal) (g : Fin 8 → EReal → EReal) (j : J)
    (h : ∀ k a, f k a j = g k (a j)) (a : J → EReal) : steps f a j = steps g (a j) := by
  simp only [steps, h]

/-- Adding a term per class in turn sums the terms. -/
theorem steps_add (s : Fin 8 → EReal) : steps (fun k a => a + s k) 0 = ∑ k, s k := by
  simp only [steps, Fin.sum_univ_eight, zero_add]

/-- Minima taken in turn are bounded below by what bounds every term. -/
theorem le_steps_min (c : EReal) (d : Fin 8 → EReal) : c ≤ steps (fun k a => min a (d k)) ⊤ ↔ ∀ k, c ≤ d k := by
  simp only [steps, le_min_iff, le_top, true_and, Fin.forall_fin_succ]
  constructor
  · rintro ⟨⟨⟨⟨⟨⟨⟨h0, h1⟩, h2⟩, h3⟩, h4⟩, h5⟩, h6⟩, h7⟩
    exact ⟨h0, h1, h2, h3, h4, h5, h6, h7, fun i => i.elim0⟩
  · rintro ⟨h0, h1, h2, h3, h4, h5, h6, h7, _⟩
    exact ⟨⟨⟨⟨⟨⟨⟨h0, h1⟩, h2⟩, h3⟩, h4⟩, h5⟩, h6⟩, h7⟩

/-- Words of two classes are equal when the classes are. -/
theorem word_inj (k l : Fin 8) : BitVec.ofNat 32 k.val = BitVec.ofNat 32 l.val ↔ k = l := by
  revert k l; decide

/-- The least distance to the label's class: the class's minimum picked by a sum over the classes, or one minimum over
    all prototypes with infinity at the others. -/
theorem own_class (l : Fin 8) (D : Fin 512 → EReal) :
    steps (fun k a => a + if BitVec.ofNat 32 l.val = BitVec.ofNat 32 k.val
        then Finset.univ.fold min ⊤ (fun q => D (member q k)) else 0) 0
      = Finset.univ.fold min ⊤ fun p => if BitVec.ofNat 32 (cls p).val = BitVec.ofNat 32 l.val then D p else ⊤ := by
  simp only [word_inj]
  rw [steps_add, Finset.sum_ite_eq Finset.univ l, if_pos (Finset.mem_univ _)]
  refine eq_of_forall_le_iff fun c => ?_
  simp only [Finset.le_fold_min, le_top, true_and, Finset.mem_univ, forall_true_left]
  constructor
  · intro h p
    by_cases hp : cls p = l
    · rw [if_pos hp, ← member_cls p, hp]; exact h _
    · rw [if_neg hp]; exact le_top
  · intro h q
    have := h (member q l)
    rwa [cls_member, if_pos rfl] at this

/-- The least distance to another class: minima class by class with infinity at the label's class, or one minimum over
    all prototypes with infinity at that class's. -/
theorem other_classes (l : Fin 8) (D : Fin 512 → EReal) :
    steps (fun k a => min a (if BitVec.ofNat 32 l.val = BitVec.ofNat 32 k.val
        then ⊤ else Finset.univ.fold min ⊤ (fun q => D (member q k)))) ⊤
      = Finset.univ.fold min ⊤ fun p => if BitVec.ofNat 32 (cls p).val = BitVec.ofNat 32 l.val then ⊤ else D p := by
  simp only [word_inj]
  refine eq_of_forall_le_iff fun c => ?_
  rw [le_steps_min]
  simp only [Finset.le_fold_min, le_top, true_and, Finset.mem_univ, forall_true_left]
  constructor
  · intro h p
    by_cases hp : cls p = l
    · rw [if_pos hp]; exact le_top
    · rw [if_neg hp]
      have := h (cls p)
      rw [if_neg fun e => hp e.symm] at this
      simp only [Finset.le_fold_min, le_top, true_and, Finset.mem_univ, forall_true_left] at this
      have := this ⟨p.val / 8, by omega⟩
      rwa [member_cls] at this
  · intro h k
    by_cases hk : l = k
    · rw [if_pos hk]; exact le_top
    · rw [if_neg hk]
      simp only [Finset.le_fold_min, le_top, true_and, Finset.mem_univ, forall_true_left]
      intro q
      have := h (member q k)
      rwa [cls_member, if_neg fun e => hk e.symm] at this

end Cert.Glmvq

end
-- ==== Proof.RefValue.lean ====
/- The reference's steps read at an index, over the extended reals. -/
module

public import proofs.«01_k».proof.Proof.RefForm
public import proofs.«01_k».proof.Proof.Spec

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Cert.Glmvq

set_option maxHeartbeats 2000000 in
/-- A prototype's class word is its position's remainder by eight. -/
theorem classes_apply : ∀ p : Fin 512, classes (ix1 p) = BitVec.ofNat 32 (cls p).val := by
  decide +kernel

/-- The class words, read as positions. -/
theorem column_classes : ∀ p : Fin 512, (column (wrap 8#32 classes) (ix2 p 0)).toInt.toNat = p.val % 8 := by
  decide +kernel

/-- The first word of a pair is the prototype's class, read as a position. -/
theorem pairs_class : ∀ p : Fin 512, (pairs (ix2 p 0)).toInt.toNat = p.val % 8 := by
  decide +kernel

/-- The second word of a pair is the prototype's own position. -/
theorem pairs_self : ∀ p : Fin 512, (pairs (ix2 p 1)).toInt.toNat = p.val := by
  decide +kernel

variable (x : FVec Ideal S1024x256 .f32) (y : IVec S1024 32) (p : FVec Ideal S512x256 .f32) (om : FVec Ideal S8x256x256 .f32)

/-- A mapped sample's entry: the sample with the matrix's row. -/
theorem mapX_apply (b : Fin 1024) (k : Fin 8) (e : Fin 256) :
    mapX x om (ix3 b k e) = ∑ d : Fin 256, x (ix2 b d) * om (ix3 k e d) := by
  pointwise [mapX]

/-- A mapped prototype's entry: the matrix's row with the prototype. -/
theorem mapP_apply (q : Fin 512) (e : Fin 256) :
    mapP p om (ix2 q e) = ∑ d : Fin 256, mats om (ix3 q e d) * p (ix2 q d) := by
  pointwise [mapP]

/-- A mapped sample's squared length. -/
theorem normX_apply (b : Fin 1024) (k : Fin 8) :
    normX x om (ix2 b k) = ∑ e : Fin 256, mapX x om (ix3 b k e) * mapX x om (ix3 b k e) := by
  pointwise [normX]

/-- A mapped prototype's squared length. -/
theorem normP_apply (q : Fin 512) :
    normP p om (ix1 q) = ∑ e : Fin 256, mapP p om (ix2 q e) * mapP p om (ix2 q e) := by
  pointwise [normP]

/-- The product of a mapped sample and a mapped prototype. -/
theorem crossAll_apply (b : Fin 1024) (k : Fin 8) (q : Fin 512) :
    crossAll x p om (ix3 b k q) = ∑ e : Fin 256, mapX x om (ix3 b k e) * mapP p om (ix2 q e) := by
  pointwise [crossAll]

/-- The distance: the two squared lengths less twice the product. -/
theorem dist_apply (b : Fin 1024) (q : Fin 512) :
    dist x p om (ix2 b q) = normXAt x om (ix2 b q) + normP p om (ix1 q)
      - Ideal.ofBits .f32 0x40000000#32 * cross x p om (ix2 b q) := by
  pointwise [dist]

/-- The mask compares the prototype's class with the sample's label. -/
theorem same_apply (b : Fin 1024) (q : Fin 512) :
    same y (ix2 b q) = IntOp.cmpi .eq (classes (ix1 q)) (y (ix1 b)) := by
  pointwise [same]

/-- A prototype's matrix is its class's. -/
theorem mats_apply (q : Fin 512) (e d : Fin 256) : mats om (ix3 q e d) = om (ix3 (cls q) e d) := by
  unfold mats Host.gather
  congr 1
  funext a
  refine Fin.ext ?_
  show gather_S8x256x256_S512x1_S512x256x256_12_0_n_n_0_1_1256256.start _ _ a
    + gather_S8x256x256_S512x1_S512x256x256_12_0_n_n_0_1_1256256.batchCoord _ a
    + gather_S8x256x256_S512x1_S512x256x256_12_0_n_n_0_1_1256256.offCoord _ a = _
  rw [GatherDims.batchCoord_eq_zero _ _ _ List.not_mem_nil, Nat.add_zero]
  match a with
  | ⟨0, _⟩ =>
    rw [GatherDims.offCoord_eq_zero _ _ _ (by decide +revert), Nat.add_zero]
    unfold GatherDims.start
    rw [dif_pos (by decide +revert)]
    have h : gather_S8x256x256_S512x1_S512x256x256_12_0_n_n_0_1_1256256.siIdx (ix3 q e d) ⟨0, by decide⟩ = ix2 q 0 := by
      funext b
      refine Fin.ext ?_
      match b with
      | ⟨0, _⟩ => rfl
      | ⟨1, _⟩ => rfl
    refine (congrArg (fun i => min (column (wrap 8#32 classes) i).toInt.toNat 7) h).trans ?_
    rw [column_classes]
    exact Nat.min_eq_left (Nat.le_of_lt_succ (cls q).isLt)
  | ⟨1, _⟩ => exact Nat.zero_add _
  | ⟨2, _⟩ => exact Nat.zero_add _

/-- The samples' squared lengths are taken at the prototype's class. -/
theorem normXAt_apply (b : Fin 1024) (q : Fin 512) : normXAt x om (ix2 b q) = normX x om (ix2 b (cls q)) := by
  unfold normXAt Host.gather
  congr 1
  funext a
  refine Fin.ext ?_
  show gather_S1024x8_S512x1_S1024x512_0_1_n_n_1_1_10241.start _ _ a
    + gather_S1024x8_S512x1_S1024x512_0_1_n_n_1_1_10241.batchCoord _ a
    + gather_S1024x8_S512x1_S1024x512_0_1_n_n_1_1_10241.offCoord _ a = _
  rw [GatherDims.batchCoord_eq_zero _ _ _ List.not_mem_nil, Nat.add_zero]
  match a with
  | ⟨0, _⟩ => exact Nat.zero_add _
  | ⟨1, _⟩ =>
    rw [GatherDims.offCoord_eq_zero _ _ _ (by decide +revert), Nat.add_zero]
    unfold GatherDims.start
    rw [dif_pos (by decide +revert)]
    have h : gather_S1024x8_S512x1_S1024x512_0_1_n_n_1_1_10241.siIdx (ix2 b q) ⟨0, by decide⟩ = ix2 q 0 := by
      funext b
      refine Fin.ext ?_
      match b with
      | ⟨0, _⟩ => rfl
      | ⟨1, _⟩ => rfl
    refine (congrArg (fun i => min (column (wrap 8#32 classes) i).toInt.toNat 7) h).trans ?_
    rw [column_classes]
    exact Nat.min_eq_left (Nat.le_of_lt_succ (cls q).isLt)

/-- The products are taken at the prototype's class and at the prototype. -/
theorem cross_apply (b : Fin 1024) (q : Fin 512) : cross x p om (ix2 b q) = crossAll x p om (ix3 b (cls q) q) := by
  unfold cross Host.gather
  congr 1
  funext a
  refine Fin.ext ?_
  show gather_S1024x8x512_S512x2_S1024x512_0_12_n_n_12_1_102411.start _ _ a
    + gather_S1024x8x512_S512x2_S1024x512_0_12_n_n_12_1_102411.batchCoord _ a
    + gather_S1024x8x512_S512x2_S1024x512_0_12_n_n_12_1_102411.offCoord _ a = _
  rw [GatherDims.batchCoord_eq_zero _ _ _ List.not_mem_nil, Nat.add_zero]
  have h (c : Fin 2) : gather_S1024x8x512_S512x2_S1024x512_0_12_n_n_12_1_102411.siIdx (ix2 b q) c = ix2 q c := by
    funext b
    refine Fin.ext ?_
    match b with
    | ⟨0, _⟩ => rfl
    | ⟨1, _⟩ => rfl
  match a with
  | ⟨0, _⟩ => exact Nat.zero_add _
  | ⟨1, _⟩ =>
    rw [GatherDims.offCoord_eq_zero _ _ _ (by decide +revert), Nat.add_zero]
    unfold GatherDims.start
    rw [dif_pos (by decide +revert)]
    refine (congrArg (fun i => min (pairs i).toInt.toNat 7) (h 0)).trans ?_
    rw [pairs_class]
    exact Nat.min_eq_left (Nat.le_of_lt_succ (cls q).isLt)
  | ⟨2, _⟩ =>
    rw [GatherDims.offCoord_eq_zero _ _ _ (by decide +revert), Nat.add_zero]
    unfold GatherDims.start
    rw [dif_pos (by decide +revert)]
    refine (congrArg (fun i => min (pairs i).toInt.toNat 511) (h 1)).trans ?_
    rw [pairs_self]
    exact Nat.min_eq_left (Nat.le_of_lt_succ q.isLt)

/-- The least distance over the marked prototypes. -/
theorem least_apply (m : IVec S1024x512 1) (d : FVec Ideal S1024x512 .f32) (b : Fin 1024) :
    least m d (ix1 b) = Finset.univ.fold min ⊤ (fun q : Fin 512 => if m (ix2 b q) = 1#1 then d (ix2 b q) else ⊤) := by
  pointwise [least]
  rw [const_inf]
  rfl

/-- The sigmoid at a sample. -/
theorem sigmoid_apply (pos neg : FVec Ideal S1024 .f32) (b : Fin 1024) :
    sigmoid pos neg (ix1 b) = relSig (pos (ix1 b)) (neg (ix1 b)) := by
  pointwise [sigmoid, relSig]

/-- Positions in the line of all matrices' entries are entries of matrices. -/
def lineEquiv : Fin 524288 ≃ Fin 8 × Fin 256 × Fin 256 where
  toFun t := (⟨t.val / 65536, by omega⟩, ⟨t.val / 256 % 256, by omega⟩, ⟨t.val % 256, by omega⟩)
  invFun a := ⟨a.1.val * 65536 + a.2.1.val * 256 + a.2.2.val, by omega⟩
  left_inv t := Fin.ext (by show t.val / 65536 * 65536 + t.val / 256 % 256 * 256 + t.val % 256 = t.val; omega)
  right_inv a := Prod.ext (Fin.ext (by show (a.1.val * 65536 + a.2.1.val * 256 + a.2.2.val) / 65536 = a.1.val; omega))
    (Prod.ext (Fin.ext (by show (a.1.val * 65536 + a.2.1.val * 256 + a.2.2.val) / 256 % 256 = a.2.1.val; omega))
      (Fin.ext (by show (a.1.val * 65536 + a.2.1.val * 256 + a.2.2.val) % 256 = a.2.2.val; omega)))

/-- The sum of squares, matrix by matrix. -/
theorem reg_apply : reg om ix0 = ∑ k : Fin 8, ∑ e : Fin 256, ∑ d : Fin 256, om (ix3 k e d) * om (ix3 k e d) := by
  pointwise [reg, flat]
  refine (Fintype.sum_equiv lineEquiv _
    (fun a => om (ix3 a.1 a.2.1 a.2.2) * om (ix3 a.1 a.2.1 a.2.2)) fun _ => rfl).trans ?_
  rw [Fintype.sum_prod_type]
  exact Finset.sum_congr rfl fun k _ => Fintype.sum_prod_type _

/-- The closing scalar: the sum of the sigmoids over 1024, and a hundredth of the root. -/
theorem close_apply (pos neg : FVec Ideal S1024 .f32) (r : FVec Ideal S_ .f32) :
    close pos neg r ix0
      = Ideal.div (∑ b : Fin 1024, sigmoid pos neg (ix1 b)) (Ideal.ofBits .f32 0x44800000#32)
        + Ideal.ofBits .f32 0x3C23D70A#32 * Ideal.sqrt (r ix0) := by
  pointwise [close]

end Cert.ReferenceIdeal.Hand

end
-- ==== Proof.Equation.lean ====
/- The kernel's number is the reference's, for labels that are classes and for real samples and prototypes. Where
   the matrices are real too, each of its steps is the reference's; where one of their entries is infinite, both numbers
   are. -/
module

public import proofs.«01_k».proof.Proof.KernelValue
public import proofs.«01_k».proof.Proof.RefValue

@[expose] public section

set_option maxRecDepth 16384

noncomputable section

namespace Cert.Glmvq

open Idealize.ShloMosaic Idealize.ShloMosaic.TcCoe
open Cert.KernelIdeal Cert.KernelIdeal.Gen
open Cert.KernelIdeal.Hand (steps)

variable (x : FVec Ideal S1024x256 .f32) (y : IVec S1024 32) (p : FVec Ideal S512x256 .f32) (om : FVec Ideal S8x256x256 .f32)

/-- The prototypes as the kernel takes them: eight to a row. -/
def grouped : FVec Ideal S64x2048 .f32 := shapeCast S64x2048 p shapeCasts_S512x256_S64x2048

/-- The labels as the kernel takes them: in one row. -/
def row : Vec Ideal S1x1024 .i32 := shapeCast S1x1024 y shapeCasts_S1024_S1x1024

/-- A class's block of the grouped prototypes holds the class's prototypes. -/
theorem protoAt_grouped (k : Fin 8) (q : Fin 64) (d : Fin 256) :
    Hand.protoAt (F := Ideal) (grouped p) k (ix2 q d) = p (ix2 (member q k) d) := by
  unfold Hand.protoAt grouped
  pointwise [member]
  exact congrArg (fun i => p (ix2 i d)) (Fin.ext (by
    show q.val * 8 + (256 * k.val + d.val) / 256 = 8 * q.val + k.val
    omega))

/-- A label in the row. -/
theorem row_apply (b : Fin 1024) : row y (ix2 0 b) = y (ix1 b) := by
  pointwise [row]

/-- The kernel's mapped sample is the reference's. -/
theorem mapX_eq (k : Fin 8) (e : Fin 256) (b : Fin 1024) :
    Hand.mapX x (Hand.omegaAt om k) (ix2 e b) = ReferenceIdeal.Hand.mapX x om (ix3 b k e) := by
  rw [Hand.mapX_apply, ReferenceIdeal.Hand.mapX_apply]
  exact Finset.sum_congr rfl fun d _ => mul_comm _ _

/-- The kernel's mapped prototype is the reference's. -/
theorem mapP_eq (k : Fin 8) (q : Fin 64) (e : Fin 256) :
    Hand.mapP (Hand.protoAt (grouped p) k) (Hand.omegaAt om k) (ix2 q e)
      = ReferenceIdeal.Hand.mapP p om (ix2 (member q k) e) := by
  rw [Hand.mapP_apply, ReferenceIdeal.Hand.mapP_apply]
  refine Finset.sum_congr rfl fun d _ => ?_
  rw [protoAt_grouped, ReferenceIdeal.Hand.mats_apply, cls_member]
  exact mul_comm _ _

/-- The complement of the mask. -/
theorem not_same_apply (b : Fin 1024) (q : Fin 512) :
    noti (ReferenceIdeal.Hand.same y) (ix2 b q)
      = ~~~IntOp.cmpi .eq (ReferenceIdeal.Hand.classes (ix1 q)) (y (ix1 b)) := by
  rw [← ReferenceIdeal.Hand.same_apply]
  rfl

/-- A sum of products of reals is a real. -/
theorem real_sum_mul {n : ℕ} (f g : Fin n → EReal) (hf : ∀ i, ∃ r : ℝ, f i = r) (hg : ∀ i, ∃ r : ℝ, g i = r) :
    ∃ r : ℝ, ∑ i, f i * g i = (r : EReal) := by
  choose F hF using hf
  choose G hG using hg
  exact ⟨∑ i, F i * G i, by simp only [hF, hG, ← EReal.coe_mul, coe_sum]⟩

section Reals

variable (hx : ∀ j, ∃ r : ℝ, x j = (r : EReal)) (hp : ∀ j, ∃ r : ℝ, p j = (r : EReal)) (hom : ∀ j, ∃ r : ℝ, om j = (r : EReal))

include hx hom in
/-- Mapped samples have real entries. -/
theorem mapX_real (b : Fin 1024) (k : Fin 8) (e : Fin 256) :
    ∃ r : ℝ, ReferenceIdeal.Hand.mapX x om (ix3 b k e) = (r : EReal) := by
  rw [ReferenceIdeal.Hand.mapX_apply]
  exact real_sum_mul _ _ (fun _ => hx _) fun _ => hom _

include hp hom in
/-- Mapped prototypes have real entries. -/
theorem mapP_real (q : Fin 512) (e : Fin 256) : ∃ r : ℝ, ReferenceIdeal.Hand.mapP p om (ix2 q e) = (r : EReal) := by
  rw [ReferenceIdeal.Hand.mapP_apply]
  refine real_sum_mul _ _ (fun d => ?_) fun _ => hp _
  rw [ReferenceIdeal.Hand.mats_apply]
  exact hom _

include hx hp hom in
/-- A class's minimum in the kernel is the least of the reference's distances to the class's prototypes. -/
theorem classMin_eq (k : Fin 8) (b : Fin 1024) :
    Hand.classMin x (Hand.protoAt (grouped p) k) (Hand.omegaAt om k) (ix2 0 b)
      = Finset.univ.fold min ⊤ fun q => ReferenceIdeal.Hand.dist x p om (ix2 b (member q k)) := by
  choose s hs using fun e => mapX_real x om hx hom b k e
  choose t ht using fun q e => mapP_real p om hp hom (member q k) e
  rw [Hand.classMin_apply]
  simp only [Hand.normX_apply, Hand.normP_apply, Hand.cross_apply, ReferenceIdeal.Hand.dist_apply,
    ReferenceIdeal.Hand.normXAt_apply, ReferenceIdeal.Hand.cross_apply, ReferenceIdeal.Hand.crossAll_apply,
    ReferenceIdeal.Hand.normX_apply, ReferenceIdeal.Hand.normP_apply, cls_member, mapX_eq, mapP_eq, hs, ht,
    const_two, const_neg_two, ← dist_forms]
  obtain ⟨r, hr⟩ := real_sum_mul (fun e => (s e : EReal)) (fun e => (s e : EReal)) (fun e => ⟨s e, rfl⟩) fun e => ⟨s e, rfl⟩
  rw [hr]
  exact fold_min_add _ r

variable (hy : ∀ j, ∃ l : Fin 8, y j = BitVec.ofNat 32 l.val)

include hx hp hom hy in
/-- The least distance to the own class, in the two programs. -/
theorem own_eq (b : Fin 1024) :
    steps (fun k a => Hand.posStep (row y) (BitVec.ofNat 32 k.val) a
        (Hand.classMin x (Hand.protoAt (grouped p) k) (Hand.omegaAt om k)))
      (broadcast S1x1024 (Scalar.ofBits .f32 0x00000000#32)) (ix2 0 b)
      = ReferenceIdeal.Hand.least (ReferenceIdeal.Hand.same y) (ReferenceIdeal.Hand.dist x p om) (ix1 b) := by
  obtain ⟨l, hl⟩ := hy (ix1 b)
  have h := steps_apply (fun k a => Hand.posStep (row y) (BitVec.ofNat 32 k.val) a
      (Hand.classMin x (Hand.protoAt (grouped p) k) (Hand.omegaAt om k)))
    (fun k a => a + if BitVec.ofNat 32 l.val = BitVec.ofNat 32 k.val
      then Finset.univ.fold min ⊤ (fun q => ReferenceIdeal.Hand.dist x p om (ix2 b (member q k))) else 0) (ix2 0 b)
    (fun k a => by rw [Hand.posStep_apply, classMin_eq x p om hx hp hom, row_apply, hl])
    (broadcast S1x1024 (Ideal.ofBits .f32 0x00000000#32))
  refine h.trans ((congrArg _ Ideal.ofBits_zero_f32).trans
    ((own_class l fun q => ReferenceIdeal.Hand.dist x p om (ix2 b q)).trans ?_))
  simp only [ReferenceIdeal.Hand.least_apply, ReferenceIdeal.Hand.same_apply, ReferenceIdeal.Hand.classes_apply,
    cmpi_eq_one, hl]

include hx hp hom hy in
/-- The least distance to another class, in the two programs. -/
theorem other_eq (b : Fin 1024) :
    steps (fun k a => Hand.negStep (row y) (BitVec.ofNat 32 k.val) a
        (Hand.classMin x (Hand.protoAt (grouped p) k) (Hand.omegaAt om k)))
      (broadcast S1x1024 (Scalar.ofBits .f32 0x7F800000#32)) (ix2 0 b)
      = ReferenceIdeal.Hand.least (noti (ReferenceIdeal.Hand.same y)) (ReferenceIdeal.Hand.dist x p om) (ix1 b) := by
  obtain ⟨l, hl⟩ := hy (ix1 b)
  have h := steps_apply (fun k a => Hand.negStep (row y) (BitVec.ofNat 32 k.val) a
      (Hand.classMin x (Hand.protoAt (grouped p) k) (Hand.omegaAt om k)))
    (fun k a => min a (if BitVec.ofNat 32 l.val = BitVec.ofNat 32 k.val
      then ⊤ else Finset.univ.fold min ⊤ (fun q => ReferenceIdeal.Hand.dist x p om (ix2 b (member q k))))) (ix2 0 b)
    (fun k a => by rw [Hand.negStep_apply, classMin_eq x p om hx hp hom, row_apply, hl])
    (broadcast S1x1024 (Ideal.ofBits .f32 0x7F800000#32))
  refine h.trans ((congrArg _ const_inf).trans
    ((other_classes l fun q => ReferenceIdeal.Hand.dist x p om (ix2 b q)).trans ?_))
  simp only [ReferenceIdeal.Hand.least_apply, not_same_apply, ReferenceIdeal.Hand.classes_apply, ite_not_bit,
    cmpi_eq_one, hl]

/-- The sum of squares, in the two programs. -/
theorem reg_eq :
    steps (fun k a => Hand.regStep a (Hand.omegaAt om k)) (Scalar.ofBits .f32 0x00000000#32)
      = ReferenceIdeal.Hand.reg om ix0 := by
  simp only [Hand.regStep_apply]
  rw [ReferenceIdeal.Hand.reg_apply]
  refine Eq.trans ?_ (steps_add _)
  exact congrArg _ Ideal.ofBits_zero_f32

/-- With a matrix's entry infinite the sum of squares is infinite. -/
theorem reg_top (h : ¬ ∀ j, ∃ r : ℝ, om j = (r : EReal)) : ReferenceIdeal.Hand.reg om ix0 = ⊤ := by
  obtain ⟨j, hj⟩ := not_forall.mp h
  rw [eq_ix3 j] at hj
  have h1 (k : Fin 8) (e : Fin 256) : 0 ≤ ∑ d : Fin 256, om (ix3 k e d) * om (ix3 k e d) :=
    Finset.sum_nonneg fun d _ => sq_nonneg _
  rw [ReferenceIdeal.Hand.reg_apply]
  refine sum_top _ (fun k => Finset.sum_nonneg fun e _ => h1 k e) (j 0) ?_
  exact sum_top _ (h1 (j 0)) (j 1) (sum_top _ (fun d => sq_nonneg _) (j 2) (sq_top _ hj))

include hx hp hy in
/-- The kernel's number is the reference's. -/
theorem loss_eq :
    (fun _ => Hand.loss (row y) x (grouped p) om) = ReferenceIdeal.Hand.loss x y p om := by
  funext j
  obtain rfl : j = ix0 := Subsingleton.elim _ _
  unfold Hand.loss ReferenceIdeal.Hand.loss
  rw [Hand.close_apply, ReferenceIdeal.Hand.close_apply, reg_eq]
  simp only [Hand.sigmoid_apply, ReferenceIdeal.Hand.sigmoid_apply]
  by_cases hom : ∀ j, ∃ r : ℝ, om j = (r : EReal)
  · simp only [own_eq x y p om hx hp hom hy, other_eq x y p om hx hp hom hy]
  · rw [reg_top om hom]
    exact (close_top _ (Finset.sum_nonneg fun _ _ => relSig_nonneg _ _)).trans
      (close_top _ (Finset.sum_nonneg fun _ _ => relSig_nonneg _ _)).symm

end Reals

end Cert.Glmvq

end
-- ==== Proof.lean ====
/- The claims about the kernel and the reference, put together: the runs without fault, the kernel unchanged by its
   idealization, and the equality of the two results. -/
module

public import proofs.«01_k».proof.Proof.Gen.ReferenceIdeal.Run
public import proofs.«01_k».proof.Proof.KernelRun
public import proofs.«01_k».proof.Proof.PreValue
public import proofs.«01_k».proof.Proof.Equation
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_labels_and_finite
public import Idealize.ShloMosaic.Adequacy
public import Idealize.ShloMosaic.Init

@[expose] public section

noncomputable section

namespace Cert.Proof

open Idealize.ShloMosaic Idealize.SL.Sem Cert.Kernel

/-- Every run of the reference ends with its four argument arrays unchanged, and with every counter at zero: it has none. -/
theorem reference_frame : Cert.quiescent_ReferenceIdeal := by
  intro m g _
  exact (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- On finite samples and prototypes and labels from 0 to 7 the kernel's number is the reference's. -/
theorem result_eq (m : (ℓ : Loc Cert.KernelIdeal.nD Cert.KernelIdeal.τ Cert.KernelIdeal.sig) → Buf (Elt Ideal) ℓ)
    (h : Cert.Pre_KernelIdeal_labels_and_finite m) (c : Dev Cert.KernelIdeal.nD) :
    (fun _ => Cert.KernelIdeal.Hand.result m c)
      = Cert.ReferenceIdeal.Hand.loss (F := Ideal) (m (c.tc.loc Cert.KernelIdeal.main_arg0)) (m (c.tc.loc Cert.KernelIdeal.main_arg1))
          (m (c.tc.loc Cert.KernelIdeal.main_arg2)) (m (c.tc.loc Cert.KernelIdeal.main_arg3)) :=
  Cert.Glmvq.loss_eq _ _ _ _
    (Cert.Glmvq.sample_real _ _ _ _ (h c).2.1) (Cert.Glmvq.prototype_real _ _ _ _ (h c).2.2)
    (Cert.Glmvq.label_class _ _ _ _ (h c).1)

/-- On finite samples and prototypes and labels from 0 to 7 the kernel and the reference leave the same number. -/
theorem kernel_is_reference : Cert.algebraic_KernelIdeal_ReferenceIdeal_pre_labels_and_finite := by
  pair_intro
  · run_from Cert.KernelIdeal.Hand.run m g
  · refine (θ_run Cert.ReferenceIdeal.defs _ _).mono (fun r h c => ⟨(h c).1.trans ?_, (h c).2⟩)
      (Cert.ReferenceIdeal.Value.run (F := Ideal) m' g')
    obtain ⟨h0, h1, h2, h3⟩ := hagree c
    rw [Cert.ReferenceIdeal.Hand.res_eq, h0, h1, h2, h3]
    exact (result_eq m hpre c).symm

/-- All the claims. -/
theorem claim : Cert.Claim := ⟨Cert.Kernel.Gen.facts, Cert.KernelIdeal.Gen.facts, Cert.ReferenceIdeal.Gen.facts, Cert.Pre_labels_and_finite.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  trivial,
  kernel_is_reference⟩

end Cert.Proof

end
